-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "scale" .f32 0x3E8293EE#32 (((Real.log 2)⁻¹ * (Real.sqrt 32)⁻¹ : ℝ) : EReal)

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
-- ==== Pre_finite_queries_and_keys.lean ====
abbrev S2x256x256 : Shape := ⟨3, ![2, 256, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S768x256 : Shape := ⟨2, ![768, 256]⟩
abbrev S768 : Shape := ⟨1, ![768]⟩
abbrev S256x256 : Shape := ⟨2, ![256, 256]⟩
abbrev S_ : Shape := ⟨0, ![]⟩
abbrev S512x256 : Shape := ⟨2, ![512, 256]⟩

class Facts : Prop where
  bcast_S_S2x256x256 : S_.BroadcastsInDim S2x256x256 (![] : Fin 0 → Fin S2x256x256.rank)
  slices_S768x256_S512x256_0_0 : S768x256.Slices ![0, 0] S512x256
  bcast_S_S512x256 : S_.BroadcastsInDim S512x256 (![] : Fin 0 → Fin S512x256.rank)
  slices_S768_S256_0 : S768.Slices ![0] S256
  bcast_S_S256 : S_.BroadcastsInDim S256 (![] : Fin 0 → Fin S256.rank)
  slices_S768_S256_256 : S768.Slices ![256] S256
  slices_S768_S256_512 : S768.Slices ![512] S256

variable [Facts]

def fn_part1 {F : FTy → Type} [FloatOps F] (main_arg9 : FVec F S256 .f32) (main_v2 : IVec S2x256x256 1) (main_v6 : IVec S512x256 1) (main_v9 : IVec S256 1) (main_v13 : IVec S256 1) (main_v16 : IVec S256 1) (main_v17 : FVec F S256 .f32) : IVec S2x256x256 1 × IVec S512x256 1 × IVec S256 1 × IVec S256 1 × IVec S256 1 × IVec S256 1 :=
  let main_v18 : IVec S256 1 := cmpf .oeq main_arg9 main_v17
  (main_v2, main_v6, main_v9, main_v13, main_v16, main_v18)

def fn {F : FTy → Type} [FloatOps F] (main_arg0 : FVec F S2x256x256 .f32) (main_arg1 : FVec F S2x256x256 .f32) (main_arg2 : FVec F S256x512 .f32) (main_arg3 : FVec F S256 .f32) (main_arg4 : FVec F S1x256 .f32) (main_arg5 : FVec F S1 .f32) (main_arg6 : FVec F S768x256 .f32) (main_arg7 : FVec F S768 .f32) (main_arg8 : FVec F S256x256 .f32) (main_arg9 : FVec F S256 .f32) : IVec S2x256x256 1 × IVec S512x256 1 × IVec S256 1 × IVec S256 1 × IVec S256 1 × IVec S256 1 :=
  let main_v0 : FVec F S2x256x256 .f32 := Host.absf main_arg0
  let main_cst : FVec F S_ .f32 := constant S_ .f32 0x7F800000#32
  let main_v1 : FVec F S2x256x256 .f32 := broadcastInDim S2x256x256 ![] bcast_S_S2x256x256 main_cst
  let main_v2 : IVec S2x256x256 1 := cmpf .olt main_v0 main_v1
  let main_v3 : FVec F S512x256 .f32 := (extractStridedSlice S512x256 ![0, 0] · slices_S768x256_S512x256_0_0) main_arg6
  let main_v4 : FVec F S512x256 .f32 := Host.absf main_v3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_v7 : FVec F S256 .f32 := (extractStridedSlice S256 ![0] · slices_S768_S256_0) main_arg7
  let main_cst_1 : FVec F S_ .f32 := constant S_ .f32 0x00000000#32
  let main_v8 : FVec F S256 .f32 := broadcastInDim S256 ![] bcast_S_S256 main_cst_1
  let main_v9 : IVec S256 1 := cmpf .oeq main_v7 main_v8
  let main_v10 : FVec F S256 .f32 := (extractStridedSlice S256 ![256] · slices_S768_S256_256) main_arg7
  let main_v11 : FVec F S256 .f32 := Host.absf main_v10
  let main_cst_2 : FVec F S_ .f32 := constant S_ .f32 0x7F800000#32
  let main_v12 : FVec F S256 .f32 := broadcastInDim S256 ![] bcast_S_S256 main_cst_2
  let main_v13 : IVec S256 1 := cmpf .olt main_v11 main_v12
  let main_v14 : FVec F S256 .f32 := (extractStridedSlice S256 ![512] · slices_S768_S256_512) main_arg7
  let main_cst_3 : FVec F S_ .f32 := constant S_ .f32 0x00000000#32
  let main_v15 : FVec F S256 .f32 := broadcastInDim S256 ![] bcast_S_S256 main_cst_3
  let main_v16 : IVec S256 1 := cmpf .oeq main_v14 main_v15
  let main_cst_4 : FVec F S_ .f32 := constant S_ .f32 0x00000000#32
  let main_v17 : FVec F S256 .f32 := broadcastInDim S256 ![] bcast_S_S256 main_cst_4
  fn_part1 (F := F) main_arg9 main_v2 main_v6 main_v9 main_v13 main_v16 main_v17
-- ==== Kernel.lean ====
abbrev S2x256x256 : Shape := ⟨3, ![2, 256, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S768x256 : Shape := ⟨2, ![768, 256]⟩
abbrev S768 : Shape := ⟨1, ![768]⟩
abbrev S256x256 : Shape := ⟨2, ![256, 256]⟩
abbrev S512x256 : Shape := ⟨2, ![512, 256]⟩
abbrev S768x512 : Shape := ⟨2, ![768, 512]⟩
abbrev S32x256 : Shape := ⟨2, ![32, 256]⟩
abbrev S256x1 : Shape := ⟨2, ![256, 1]⟩
abbrev S256x32 : Shape := ⟨2, ![256, 32]⟩
abbrev S1x256x256 : Shape := ⟨3, ![1, 256, 256]⟩

abbrev nBuf : Space → Nat
  | .hbm => 12
  | .vmem => 4
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S256x512, .f32⟩
  | .hbm, ⟨3, _⟩ => ⟨S256, .f32⟩
  | .hbm, ⟨4, _⟩ => ⟨S1x256, .f32⟩
  | .hbm, ⟨5, _⟩ => ⟨S1, .f32⟩
  | .hbm, ⟨6, _⟩ => ⟨S768x256, .f32⟩
  | .hbm, ⟨7, _⟩ => ⟨S768, .f32⟩
  | .hbm, ⟨8, _⟩ => ⟨S256x256, .f32⟩
  | .hbm, ⟨9, _⟩ => ⟨S256, .f32⟩
  | .hbm, ⟨10, _⟩ => ⟨S512x256, .f32⟩
  | .hbm, ⟨11, _⟩ => ⟨S2x256x256, .f32⟩
  | .local _ .vmem, ⟨0, _⟩ => ⟨S512x256, .f32⟩
  | .local _ .vmem, ⟨1, _⟩ => ⟨S768x256, .f32⟩
  | .local _ .vmem, ⟨2, _⟩ => ⟨S256x256, .f32⟩
  | .local _ .vmem, ⟨3, _⟩ => ⟨S2x256x256, .f32⟩
  | _, _ => ⟨S2x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale" => some (((Real.log 2)⁻¹ * (Real.sqrt 32)⁻¹ : ℝ) : EReal)
  | _ => none
-- ==== ReferenceIdeal.lean ====
abbrev S2x256x256 : Shape := ⟨3, ![2, 256, 256]⟩
abbrev S256x512 : Shape := ⟨2, ![256, 512]⟩
abbrev S256 : Shape := ⟨1, ![256]⟩
abbrev S1x256 : Shape := ⟨2, ![1, 256]⟩
abbrev S1 : Shape := ⟨1, ![1]⟩
abbrev S768x256 : Shape := ⟨2, ![768, 256]⟩
abbrev S768 : Shape := ⟨1, ![768]⟩
abbrev S256x256 : Shape := ⟨2, ![256, 256]⟩
abbrev S256x768 : Shape := ⟨2, ![256, 768]⟩
abbrev S2x256x768 : Shape := ⟨3, ![2, 256, 768]⟩
abbrev S1x1x768 : Shape := ⟨3, ![1, 1, 768]⟩
abbrev S2x256x8x32 : Shape := ⟨4, ![2, 256, 8, 32]⟩
abbrev S2x8x256x32 : Shape := ⟨4, ![2, 8, 256, 32]⟩
abbrev S2x8x32x256 : Shape := ⟨4, ![2, 8, 32, 256]⟩
abbrev S2x8x256x256 : Shape := ⟨4, ![2, 8, 256, 256]⟩
abbrev S_ : Shape := ⟨0, ![]⟩
abbrev S2x8x256 : Shape := ⟨3, ![2, 8, 256]⟩
abbrev S2x8x256x1 : Shape := ⟨4, ![2, 8, 256, 1]⟩
abbrev S1x1x256 : Shape := ⟨3, ![1, 1, 256]⟩

abbrev nBuf : Space → Nat
  | .hbm => 53
  | .vmem => 0
  | .smem => 0
  | _ => 0

abbrev bufTy : (tb : Table) → Fin (tcTables nBuf tb) → BufTy
  | .hbm, ⟨0, _⟩ => ⟨S2x256x256, .f32⟩
  | .hbm, ⟨1, _⟩ => ⟨S2x256x256, .f32⟩
  | .hbm, ⟨2, _⟩ => ⟨S256x512, .f32⟩
  | .hbm, ⟨3, _⟩ => ⟨S256, .f32⟩
  | .hbm, ⟨4, _⟩ => ⟨S1x256, .f32⟩
  | .hbm, ⟨5, _⟩ => ⟨S1, .f32⟩
  | .hbm, ⟨6, _⟩ => ⟨S768x256, .f32⟩
  | .hbm, ⟨7, _⟩ => ⟨S768, .f32⟩
  | .hbm, ⟨8, _⟩ => ⟨S256x256, .f32⟩
  | .hbm, ⟨9, _⟩ => ⟨S256, .f32⟩
  | .hbm, ⟨10, _⟩ => ⟨S256x768, .f32⟩
  | .hbm, ⟨11, _⟩ => ⟨S2x256x768, .f32⟩
  | .hbm, ⟨12, _⟩ => ⟨S1x1x768, .f32⟩
  | .hbm, ⟨13, _⟩ => ⟨S2x256x768, .f32⟩
  | .hbm, ⟨14, _⟩ => ⟨S2x256x768, .f32⟩
  | .hbm, ⟨15, _⟩ => ⟨S2x256x256, .f32⟩
  | .hbm, ⟨16, _⟩ => ⟨S2x256x256, .f32⟩
  | .hbm, ⟨17, _⟩ => ⟨S2x256x256, .f32⟩
  | .hbm, ⟨18, _⟩ => ⟨S2x256x8x32, .f32⟩
  | .hbm, ⟨19, _⟩ => ⟨S2x8x256x32, .f32⟩
  | .hbm, ⟨20, _⟩ => ⟨S2x256x8x32, .f32⟩
  | .hbm, ⟨21, _⟩ => ⟨S2x8x256x32, .f32⟩
  | .hbm, ⟨22, _⟩ => ⟨S2x256x8x32, .f32⟩
  | .hbm, ⟨23, _⟩ => ⟨S2x8x256x32, .f32⟩
  | .hbm, ⟨24, _⟩ => ⟨S2x8x32x256, .f32⟩
  | .hbm, ⟨25, _⟩ => ⟨S2x8x256x256, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S2x8x256x256, .f32⟩
  | .hbm, ⟨30, _⟩ => ⟨S2x8x256x256, .f32⟩
  | .hbm, ⟨31, _⟩ => ⟨S_, .f32⟩
  | .hbm, ⟨32, _⟩ => ⟨S2x8x256, .f32⟩
  | .hbm, ⟨33, _⟩ => ⟨S_, .f32⟩
  | .hbm, ⟨34, _⟩ => ⟨S2x8x256, .f32⟩
  | .hbm, ⟨35, _⟩ => ⟨S2x8x256, .f32⟩
  | .hbm, ⟨36, _⟩ => ⟨S2x8x256x1, .f32⟩
  | .hbm, ⟨37, _⟩ => ⟨S2x8x256x256, .f32⟩
  | .hbm, ⟨38, _⟩ => ⟨S2x8x256x256, .f32⟩
  | .hbm, ⟨39, _⟩ => ⟨S2x8x256x256, .f32⟩
  | .hbm, ⟨40, _⟩ => ⟨S_, .f32⟩
  | .hbm, ⟨41, _⟩ => ⟨S2x8x256, .f32⟩
  | .hbm, ⟨42, _⟩ => ⟨S2x8x256x1, .f32⟩
  | .hbm, ⟨43, _⟩ => ⟨S2x8x256x256, .f32⟩
  | .hbm, ⟨44, _⟩ => ⟨S2x8x256x256, .f32⟩
  | .hbm, ⟨45, _⟩ => ⟨S2x8x256x32, .f32⟩
  | .hbm, ⟨46, _⟩ => ⟨S2x256x8x32, .f32⟩
  | .hbm, ⟨47, _⟩ => ⟨S2x256x256, .f32⟩
  | .hbm, ⟨48, _⟩ => ⟨S256x256, .f32⟩
  | .hbm, ⟨49, _⟩ => ⟨S2x256x256, .f32⟩
  | .hbm, ⟨50, _⟩ => ⟨S1x1x256, .f32⟩
  | .hbm, ⟨51, _⟩ => ⟨S2x256x256, .f32⟩
  | .hbm, ⟨52, _⟩ => ⟨S2x256x256, .f32⟩
  | _, _ => ⟨S2x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.Spec.lean ====
/- The function both programs are shown to compute, written index by index over the extended reals: eight heads of
   attention over the projected tokens, each through its rows of the output weights. -/
module

public import proofs.«01_k».proof.KernelIdeal
public import Idealize.ShloMosaic.Lib.Pointwise

@[expose] public section

noncomputable section

namespace Cert.Attention

open Idealize.ShloMosaic Cert.KernelIdeal

/-- The scale on the queries, `1 / (log 2 · √32)`, as an extended real. -/
def scale : EReal := (((Real.log 2)⁻¹ * (Real.sqrt 32)⁻¹ : ℝ) : EReal)

/-- The row of the projection weights that holds coordinate `d` of head `h`'s queries (`t = 0`), keys (`t = 1`) or
    values (`t = 2`). -/
def row (t : Fin 3) (h : Fin 8) (d : Fin 32) : Fin 768 := ⟨256 * t.val + (32 * h.val + d.val), by omega⟩

/-- The column of the output weights that head `h`'s coordinate `d` meets. -/
def col (h : Fin 8) (d : Fin 32) : Fin 256 := ⟨32 * h.val + d.val, by omega⟩

/-- Token `i` of batch `b` against row `r` of the projection weights. -/
def proj (x : FVec Ideal S2x256x256 .f32) (w : FVec Ideal S768x256 .f32) (b : Fin 2) (i : Fin 256) (r : Fin 768) :
    EReal :=
  ∑ k : Fin 256, w (ix2 r k) * x (ix3 b i k)

/-- Two to the scaled product of token `i`'s query and token `j`'s key in head `h`, for projected tokens `P`. -/
def weight (P : Fin 256 → Fin 768 → EReal) (h : Fin 8) (i j : Fin 256) : EReal :=
  Ideal.exp2 (∑ d : Fin 32, P i (row 0 h d) * scale * P j (row 1 h d))

/-- Coordinate `d` of head `h`'s output at token `i`: the weighted sum of the values over the sum of the weights. -/
def attend (P : Fin 256 → Fin 768 → EReal) (h : Fin 8) (i : Fin 256) (d : Fin 32) : EReal :=
  Ideal.div (∑ j, weight P h i j * P j (row 2 h d)) (∑ j, weight P h i j)

/-- The result: every head's output through its columns of the output weights. -/
def result (x : FVec Ideal S2x256x256 .f32) (w : FVec Ideal S768x256 .f32) (wo : FVec Ideal S256x256 .f32) :
    FVec Ideal S2x256x256 .f32 := fun y =>
  ∑ h : Fin 8, ∑ d : Fin 32, attend (proj x w (y 0)) h (y 1) d * wo (ix2 (y 2) (col h d))

/-- A sum over the 256 columns is the sum over heads of the sum over a head's coordinates. -/
theorem sum_col (f : Fin 256 → EReal) : ∑ a, f a = ∑ h : Fin 8, ∑ d : Fin 32, f (col h d) := by
  rw [← Fintype.sum_prod_type' (fun h d => f (col h d))]
  refine (Fintype.sum_equiv (finProdFinEquiv : Fin 8 × Fin 32 ≃ Fin 256) _ _ fun p => ?_).symm
  exact congrArg f (Fin.ext (by simp [col, finProdFinEquiv]; omega))

end Cert.Attention

end
-- ==== Proof.KernelHead.lean ====
/- What the kernel stores, as one function of a head used sixteen times: the printed body spells each head of each batch
   out; here a head is one definition over its block of rows, read at an index once. -/
module

public import proofs.«01_k».proof.Proof.Gen.KernelIdeal.Frame
public import proofs.«01_k».proof.Proof.Spec
public import Idealize.ShloMosaic.Lib.Pointwise

@[expose] public section

set_option maxRecDepth 16384

noncomputable section

namespace Cert.KernelIdeal.HeadValue

open Cert.KernelIdeal Cert.KernelIdeal.Gen Idealize.ShloMosaic Idealize.ShloMosaic.TcCoe Idealize.SL.Sem

variable {F : FTy → Type} [FloatOps F] [Named F]

/-- The named constant every head multiplies its queries by. -/
abbrev namedScale : F .f32 := Named.named κ "scale" 0x3E8293EE#32

/-- One head's weights: two to the power of the scaled products of its query and key rows. -/
def weights (q k : FVec F S32x256 .f32) : FVec F S256x256 .bf16 :=
  exp2 (truncf .bf16 (matmul dot_S32x256_S32x256_S256x256_0_0_1_1_n_n none
    (truncf .bf16 (mulf q (broadcast S32x256 namedScale)) bitsLt_bf16_f32) (truncf .bf16 k bitsLt_bf16_f32)
    (constant S256x256 .f32 0x00000000#32)) bitsLt_bf16_f32)

/-- One head's share of the result: the weighted sums of its value rows over the sums of the weights, through the
    head's rows `w` of the transposed output weights. -/
def head (q k v : FVec F S32x256 .f32) (w : FVec F S32x256 .bf16) : FVec F S256x256 .f32 :=
  matmul dot_S256x32_S32x256_S256x256_1_0_0_1_n_n none
    (divf
      (truncf .bf16 (matmul dot_S256x256_S32x256_S256x32_1_1_0_0_n_n none (weights q k)
        (truncf .bf16 v bitsLt_bf16_f32) (constant S256x32 .f32 0x00000000#32)) bitsLt_bf16_f32)
      (broadcastTo S256x32 (truncf .bf16 (shapeCast S256x1
        (multiReduction .add [1] S256 (extf .f32 (weights q k) bitsLt_bf16_f32) 0x00000000#32 reduces_S256x256_S256
          (.inl rfl) rfl) shapeCasts_S256_S256x1) bitsLt_bf16_f32) broadcasts_S256x1_S256x32))
    w (constant S256x256 .f32 0x00000000#32)

/-- The block of 32 rows number `r` (a head's queries, keys or values), at either batch's 256 columns, lies inside the
    projected array. -/
theorem slices_qkv (r : Fin 24) (b : Fin 2) : S768x512.Slices ![32 * r.val, 256 * b.val] S32x256 := by
  revert r b; decide

/-- A head's 32 rows of the transposed output weights lie inside them. -/
theorem slices_out (h : Fin 8) : S256x256.Slices ![32 * h.val, 0] S32x256 := by
  revert h; decide

/-- The block of 32 rows number `r` of the projected array, at batch `b`. -/
def rows (v8 : FVec F S768x512 .f32) (r : Fin 24) (b : Fin 2) : FVec F S32x256 .f32 :=
  extractStridedSlice S32x256 ![32 * r.val, 256 * b.val] v8 (slices_qkv r b)

/-- The 32 rows of the transposed output weights that head `h` goes through. -/
def outRows (v4 : FVec F S256x256 .bf16) (h : Fin 8) : FVec F S32x256 .bf16 :=
  extractStridedSlice S32x256 ![32 * h.val, 0] v4 (slices_out h)

/-- Head `h` of batch `b`. -/
def headOf (v4 : FVec F S256x256 .bf16) (v8 : FVec F S768x512 .f32) (b : Fin 2) (h : Fin 8) : FVec F S256x256 .f32 :=
  head (rows v8 ⟨h.val, by omega⟩ b) (rows v8 ⟨8 + h.val, by omega⟩ b) (rows v8 ⟨16 + h.val, by omega⟩ b)
    (outRows v4 h)

/-- Batch `b`'s block of the result: the sum of its eight heads, in the kernel's order. -/
def batchOf (v4 : FVec F S256x256 .bf16) (v8 : FVec F S768x512 .f32) (b : Fin 2) : FVec F S1x256x256 .f32 :=
  shapeCast S1x256x256
    (addf (addf (addf (addf (addf (addf (addf (headOf v4 v8 b 0) (headOf v4 v8 b 1)) (headOf v4 v8 b 2))
      (headOf v4 v8 b 3)) (headOf v4 v8 b 4)) (headOf v4 v8 b 5)) (headOf v4 v8 b 6)) (headOf v4 v8 b 7))
    shapeCasts_S256x256_S1x256x256

/-- What the kernel stores: batch 1's block over batch 0's, each the sum of its heads. -/
theorem out_eq (x0 : Vec F S512x256 .f32) (x1 : Vec F S768x256 .f32) (x2 : Vec F S256x256 .f32) :
    out0_3 x0 x1 x2 = View.canon
      [⟨r0_4, batchOf (k0_pay2 (View.ld x2 r0_1)) (k0_pay3 (View.ld x1 r0_0) (View.ld x0 r0_2)) 1⟩,
       ⟨r0_3, batchOf (k0_pay2 (View.ld x2 r0_1)) (k0_pay3 (View.ld x1 r0_0) (View.ld x0 r0_2)) 0⟩] := rfl

/-! ## Read at an index over the extended reals -/

/-- The named constant is the scale of the specification. -/
theorem namedScale_eq : (namedScale (F := Ideal)) = Cert.Attention.scale :=
  IdealRules.named_const.ideal_named_scalar _ _ _ _ rfl

/-- A head at an index: the quotients of the sums, through the rows of the output weights. -/
theorem head_apply (q k v : FVec Ideal S32x256 .f32) (w : FVec Ideal S32x256 .bf16) (i e : Fin 256) :
    head q k v w (ix2 i e)
    = ∑ d : Fin 32, Ideal.div
        (∑ j : Fin 256, Ideal.exp2 (∑ p : Fin 32, q (ix2 p i) * Cert.Attention.scale * k (ix2 p j)) * v (ix2 d j))
        (∑ j : Fin 256, Ideal.exp2 (∑ p : Fin 32, q (ix2 p i) * Cert.Attention.scale * k (ix2 p j))) * w (ix2 d e) := by
  pointwise [head, weights, namedScale_eq]
  rfl

/-- A block of rows at an index. -/
theorem rows_apply (v8 : FVec Ideal S768x512 .f32) (r : Fin 24) (b : Fin 2) (d : Fin 32) (n : Fin 256) :
    rows v8 r b (ix2 d n) = v8 (ix2 ⟨32 * r.val + d.val, by omega⟩ ⟨256 * b.val + n.val, by omega⟩) := by
  pointwise [rows]

/-- A head's rows of the output weights at an index, in the weights before the transpose. -/
theorem outRows_apply (x2 : Vec Ideal S256x256 .f32) (h : Fin 8) (d : Fin 32) (e : Fin 256) :
    outRows (k0_pay2 (View.ld x2 r0_1)) h (ix2 d e) = x2 (ix2 e (Cert.Attention.col h d)) := by
  pointwise [outRows, k0_pay2]
  rfl

/-- The projected array at an index: the row of the weights against the token. -/
theorem qkv_apply (x1 : Vec Ideal S768x256 .f32) (x0 : Vec Ideal S512x256 .f32) (r : Fin 768) (n : Fin 512) :
    k0_pay3 (View.ld x1 r0_0) (View.ld x0 r0_2) (ix2 r n) = ∑ k : Fin 256, x1 (ix2 r k) * x0 (ix2 n k) := by
  pointwise [k0_pay3]

/-- A batch's block at an index is the sum of its heads. -/
theorem batchOf_apply (v4 : FVec Ideal S256x256 .bf16) (v8 : FVec Ideal S768x512 .f32) (b : Fin 2) (u : Fin 1)
    (i e : Fin 256) : batchOf v4 v8 b (ix3 u i e) = ∑ h : Fin 8, headOf v4 v8 b h (ix2 i e) := by
  rw [Fin.sum_univ_eight]
  pointwise [batchOf]

/-- A head of the kernel is a head of the specification, when the projected array holds the projected tokens `P` of
    batch `b`. -/
theorem headOf_apply (x2 : Vec Ideal S256x256 .f32) (v8 : FVec Ideal S768x512 .f32) (b : Fin 2)
    (P : Fin 256 → Fin 768 → EReal)
    (hP : ∀ (r : Fin 768) (n : Fin 256), v8 (ix2 r ⟨256 * b.val + n.val, by omega⟩) = P n r)
    (h : Fin 8) (i e : Fin 256) :
    headOf (k0_pay2 (View.ld x2 r0_1)) v8 b h (ix2 i e)
    = ∑ d : Fin 32, Cert.Attention.attend P h i d * x2 (ix2 e (Cert.Attention.col h d)) := by
  have hq : ∀ (d : Fin 32) (n : Fin 256), rows v8 ⟨h.val, by omega⟩ b (ix2 d n) = P n (Cert.Attention.row 0 h d) := by
    intro d n
    rw [rows_apply, hP]
    exact congrArg (P n) (Fin.ext (by simp [Cert.Attention.row]))
  have hk : ∀ (d : Fin 32) (n : Fin 256), rows v8 ⟨8 + h.val, by omega⟩ b (ix2 d n) = P n (Cert.Attention.row 1 h d) := by
    intro d n
    rw [rows_apply, hP]
    exact congrArg (P n) (Fin.ext (by simp [Cert.Attention.row]; omega))
  have hv : ∀ (d : Fin 32) (n : Fin 256), rows v8 ⟨16 + h.val, by omega⟩ b (ix2 d n) = P n (Cert.Attention.row 2 h d) := by
    intro d n
    rw [rows_apply, hP]
    exact congrArg (P n) (Fin.ext (by simp [Cert.Attention.row]; omega))
  unfold headOf
  rw [head_apply]
  simp only [hq, hk, hv, outRows_apply]
  rfl

end Cert.KernelIdeal.HeadValue

end
-- ==== Proof.KernelArray.lean ====
/- What the kernel's result array holds after its run: the grid has one point, every window's block is its whole array,
   and the body's two stores cover the result, one batch each. -/
module

public import proofs.«01_k».proof.Proof.Gen.KernelIdeal.Value
public import proofs.«01_k».proof.Proof.KernelHead

@[expose] public section

set_option maxRecDepth 16384

noncomputable section

namespace Cert.KernelIdeal.ArrayValue

open Cert.KernelIdeal Cert.KernelIdeal.Gen Cert.KernelIdeal.HeadValue
open Idealize.ShloMosaic Idealize.ShloMosaic.TcCoe Idealize.SL.Sem

variable (m : (ℓ : Loc nD τ sig) → Buf (Elt Ideal) ℓ) (ρ : Dev nD → PrngReg)

/-! ## The stored pieces -/

/-- The first store's index `(0, i, e)` is the result's index `(0, i, e)`. -/
theorem r0_3_emb (i e : Fin 256) : r0_3.emb (ix3 (0 : Fin 1) i e) = ix3 (0 : Fin 2) i e := by
  funext a; apply Fin.ext
  match a with
  | ⟨0, _⟩ => rfl
  | ⟨1, _⟩ => show 0 + 1 * i.val = i.val; omega
  | ⟨2, _⟩ => show 0 + 1 * e.val = e.val; omega

/-- The second store's index `(0, i, e)` is the result's index `(1, i, e)`. -/
theorem r0_4_emb (i e : Fin 256) : r0_4.emb (ix3 (0 : Fin 1) i e) = ix3 (1 : Fin 2) i e := by
  funext a; apply Fin.ext
  match a with
  | ⟨0, _⟩ => rfl
  | ⟨1, _⟩ => show 0 + 1 * i.val = i.val; omega
  | ⟨2, _⟩ => show 0 + 1 * e.val = e.val; omega

/-- The second batch's store does not reach the first batch. -/
theorem not_mem_r0_4 (i e : Fin 256) : ix3 (0 : Fin 2) i e ∉ r0_4.set := by
  intro h
  have h0 := (Rect.mem_set_unit.mp h (0 : Fin 3)).1
  exact absurd (show 1 ≤ 0 from h0) (by decide)

/-- The first batch of what the two stores leave is the first store's vector. -/
theorem stores_batch0 (B0 B1 : FVec Ideal S1x256x256 .f32) (i e : Fin 256) :
    View.canon [(⟨r0_4, B1⟩ : View.Piece (Elt Ideal) S2x256x256 .f32), ⟨r0_3, B0⟩] (ix3 (0 : Fin 2) i e)
    = B0 (ix3 (0 : Fin 1) i e) := by
  refine (View.canon_cons_of_not_mem (⟨r0_4, B1⟩ : View.Piece (Elt Ideal) S2x256x256 .f32) [⟨r0_3, B0⟩] (not_mem_r0_4 i e)).trans ?_
  rw [← r0_3_emb]
  exact View.canon_cons_emb (Val := Elt Ideal) (e := .f32) r0_3 B0 [] (ix3 (0 : Fin 1) i e)

/-- The second batch is the second store's vector. -/
theorem stores_batch1 (B0 B1 : FVec Ideal S1x256x256 .f32) (i e : Fin 256) :
    View.canon [(⟨r0_4, B1⟩ : View.Piece (Elt Ideal) S2x256x256 .f32), ⟨r0_3, B0⟩] (ix3 (1 : Fin 2) i e)
    = B1 (ix3 (0 : Fin 1) i e) := by
  rw [← r0_4_emb]
  exact View.canon_cons_emb (Val := Elt Ideal) (e := .f32) r0_4 B1 [⟨r0_3, B0⟩] (ix3 (0 : Fin 1) i e)

/-- A batch's block is the specification's result on that batch, when the projected array holds the projected
    tokens. -/
theorem batchOf_result (x : FVec Ideal S2x256x256 .f32) (w : FVec Ideal S768x256 .f32)
    (wo : FVec Ideal S256x256 .f32) (v8 : FVec Ideal S768x512 .f32) (b : Fin 2)
    (hP : ∀ (r : Fin 768) (n : Fin 256), v8 (ix2 r ⟨256 * b.val + n.val, by omega⟩) = Cert.Attention.proj x w b n r)
    (u : Fin 1) (i e : Fin 256) :
    batchOf (k0_pay2 (View.ld wo r0_1)) v8 b (ix3 u i e) = Cert.Attention.result x w wo (ix3 b i e) := by
  rw [batchOf_apply]
  unfold Cert.Attention.result
  exact Finset.sum_congr rfl fun h _ => headOf_apply wo v8 b _ hP h i e

/-- The body's result buffer, from blocks that hold the tokens `x` (their two batches one after the other), the
    projection weights and the output weights. -/
theorem out_result (x : FVec Ideal S2x256x256 .f32) (x0 : Vec Ideal S512x256 .f32) (x1 : Vec Ideal S768x256 .f32)
    (x2 : Vec Ideal S256x256 .f32)
    (hx : ∀ (b : Fin 2) (n k : Fin 256), x0 (ix2 ⟨256 * b.val + n.val, by omega⟩ k) = x (ix3 b n k)) :
    out0_3 x0 x1 x2 = Cert.Attention.result x x1 x2 := by
  have hP : ∀ (b : Fin 2) (r : Fin 768) (n : Fin 256),
      k0_pay3 (View.ld x1 r0_0) (View.ld x0 r0_2) (ix2 r ⟨256 * b.val + n.val, by omega⟩)
      = Cert.Attention.proj x x1 b n r := by
    intro b r n
    rw [qkv_apply]
    simp only [hx]
    rfl
  rw [out_eq]
  generalize k0_pay3 (View.ld x1 r0_0) (View.ld x0 r0_2) = v8 at hP ⊢
  have h0 : ∀ i e : Fin 256, batchOf (k0_pay2 (View.ld x2 r0_1)) v8 0 (ix3 (0 : Fin 1) i e)
      = Cert.Attention.result x x1 x2 (ix3 0 i e) := fun i e => batchOf_result x x1 x2 v8 0 (hP 0) 0 i e
  have h1 : ∀ i e : Fin 256, batchOf (k0_pay2 (View.ld x2 r0_1)) v8 1 (ix3 (0 : Fin 1) i e)
      = Cert.Attention.result x x1 x2 (ix3 1 i e) := fun i e => batchOf_result x x1 x2 v8 1 (hP 1) 0 i e
  funext y
  obtain ⟨b, i, e, rfl⟩ : ∃ (b : Fin 2) (i e : Fin 256), y = ix3 b i e := ⟨y 0, y 1, y 2, eq_ix3 y⟩
  obtain rfl | rfl : b = 0 ∨ b = 1 := by omega
  · exact (stores_batch0 _ _ i e).trans (h0 i e)
  · exact (stores_batch1 _ _ i e).trans (h1 i e)

/-! ## The windows' blocks are the arrays -/

/-- The one point's block of an array, read through a window at block index zero, is the array. -/
theorem read_x (c : Dev nD) (f : Buf (Elt Ideal) ((c : Thread nD τ).loc main_v0)) :
    (win0_0.blk t0_0).view.read (Elt Ideal) f = f :=
  Memref.read_access_unit_zero (Elt Ideal) main_v0
    (show (fun a => (win0_0.index t0_0) a * main_v0.ty.shape.size a) = fun _ => 0 from
      funext fun a => by fin_cases a <;> decide) (fun a => by fin_cases a <;> decide) f

/-- The same for the projection weights. -/
theorem read_w (c : Dev nD) (f : Buf (Elt Ideal) ((c : Thread nD τ).loc main_arg6)) :
    (win0_1.blk t0_0).view.read (Elt Ideal) f = f :=
  Memref.read_access_unit_zero (Elt Ideal) main_arg6
    (show (fun a => (win0_1.index t0_0) a * main_arg6.ty.shape.size a) = fun _ => 0 from
      funext fun a => by fin_cases a <;> decide) (fun a => by fin_cases a <;> decide) f

/-- The same for the output weights. -/
theorem read_wo (c : Dev nD) (f : Buf (Elt Ideal) ((c : Thread nD τ).loc main_arg8)) :
    (win0_2.blk t0_0).view.read (Elt Ideal) f = f :=
  Memref.read_access_unit_zero (Elt Ideal) main_arg8
    (show (fun a => (win0_2.index t0_0) a * main_arg8.ty.shape.size a) = fun _ => 0 from
      funext fun a => by fin_cases a <;> decide) (fun a => by fin_cases a <;> decide) f

/-- The same for the result. -/
theorem read_out (c : Dev nD) (f : Buf (Elt Ideal) ((c : Thread nD τ).loc main_v1)) :
    (win0_3.blk t0_0).view.read (Elt Ideal) f = f :=
  Memref.read_access_unit_zero (Elt Ideal) main_v1
    (show (fun a => (win0_3.index t0_0) a * main_v1.ty.shape.size a) = fun _ => 0 from
      funext fun a => by fin_cases a <;> decide) (fun a => by fin_cases a <;> decide) f

/-- The projection weights' block is the argument as launched. -/
theorem iblk_w (c : Dev nD) : iblk m c 1 t0_0 = m ((c : Thread nD τ).loc main_arg6) :=
  (read_w c _).trans (V_main_arg6 m c)

/-- The output weights' block is the argument as launched. -/
theorem iblk_wo (c : Dev nD) : iblk m c 2 t0_0 = m ((c : Thread nD τ).loc main_arg8) :=
  (read_wo c _).trans (V_main_arg8 m c)

/-- The tokens' block is the first argument reshaped, its two batches one after the other. -/
theorem iblk_x (c : Dev nD) : (iblk m c 0 t0_0 : Vec Ideal S512x256 .f32)
    = shapeCast S512x256 (m ((c : Thread nD τ).loc main_arg0)) shapeCasts_S2x256x256_S512x256 := by
  refine (read_x c _).trans ?_
  show StableHlo.after hostOps0 (fun b => m (c, b)) main_v0 = _
  after_results_simp
  rfl

/-- Read at an index. -/
theorem iblk_x_apply (c : Dev nD) (b : Fin 2) (n k : Fin 256) :
    (iblk m c 0 t0_0 : Vec Ideal S512x256 .f32) (ix2 ⟨256 * b.val + n.val, by omega⟩ k)
    = m ((c : Thread nD τ).loc main_arg0) (ix3 b n k) := by
  rw [iblk_x]
  have h : ∀ x : FVec Ideal S2x256x256 .f32,
      shapeCast S512x256 x shapeCasts_S2x256x256_S512x256 (ix2 ⟨256 * b.val + n.val, by omega⟩ k) = x (ix3 b n k) := by
    intro x
    pointwise
  exact h _

/-- The result array after the run is the specification's function of the arguments. -/
theorem final (c : Dev nD) : (dats m 0 c).arrAt 3 cfg0.N
    = Cert.Attention.result (m ((c : Thread nD τ).loc main_arg0)) (m ((c : Thread nD τ).loc main_arg6))
        (m ((c : Thread nD τ).loc main_arg8)) := by
  refine (read_out c _).symm.trans ((Cert.KernelIdeal.Value.blocks3 m c t0_0 (flush0_3 t0_0)).trans ?_)
  rw [Cert.KernelIdeal.Value.flushed3]
  refine (funext fun _ => rfl : _ = out0_3 (iblk m c 0 t0_0) (iblk m c 1 t0_0) (iblk m c 2 t0_0)).trans ?_
  rw [out_result (m ((c : Thread nD τ).loc main_arg0)) _ _ _ (iblk_x_apply m c), iblk_w, iblk_wo]

/-- The kernel's run, read: the result array holds the specification's function of the arguments, which are
    unchanged. -/
theorem run : θ_run defs (onTc (τ := τ) (main (F := Ideal))) ⟨m, fun _ => 0, ρ⟩ fun r => ∀ c : Dev nD,
      r.2.mem ((c : Thread nD τ).loc main_v1)
        = Cert.Attention.result (m ((c : Thread nD τ).loc main_arg0)) (m ((c : Thread nD τ).loc main_arg6))
            (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final m c), (h c).2⟩) (Cert.KernelIdeal.Value.run_blocks m ρ)

end Cert.KernelIdeal.ArrayValue

end
-- ==== Proof.Softmax.lean ====
/- Facts about the extended reals that the attention proof needs: sums of reals are real, a nonnegative real factor
   goes through any sum, the largest of finitely many reals is real, and the softmax of real scores is the same with
   the largest score subtracted first or not. -/
module

public import Idealize.ShloMosaic.PureOps.Ideal

@[expose] public section

noncomputable section

namespace Cert.Attention

open Idealize.ShloMosaic

/-- A sum of reals, taken in the extended reals, is the real sum. -/
theorem sum_coe {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A nonnegative real factor goes through a sum of any extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- An extended real below infinity in absolute value is a real. -/
theorem exists_coe_of_abs_lt_top {x : EReal} (h : max x (-x) < ⊤) : ∃ r : ℝ, x = (r : EReal) := by
  induction x with
  | bot => simp at h
  | top => simp at h
  | coe r => exact ⟨r, rfl⟩

/-- The running maximum of finitely many reals, at least one, started at minus infinity, is a real. -/
theorem exists_coe_fold_max {ι : Type} (s : Finset ι) (hs : s.Nonempty) (f : ι → ℝ) :
    ∃ M : ℝ, s.fold max (⊥ : EReal) (fun i => (f i : EReal)) = (M : EReal) := by
  have htop : s.fold max (⊥ : EReal) (fun i => (f i : EReal)) < ⊤ :=
    (Finset.fold_max_lt _).mpr ⟨bot_lt_top, fun i _ => EReal.coe_lt_top (f i)⟩
  obtain ⟨i, hi⟩ := hs
  have hbot : (⊥ : EReal) < s.fold max (⊥ : EReal) (fun i => (f i : EReal)) :=
    (Finset.lt_fold_max _).mpr (Or.inr ⟨i, hi, EReal.bot_lt_coe (f i)⟩)
  exact ⟨_, (EReal.coe_toReal htop.ne hbot.ne').symm⟩

/-- The softmax average of any values `v`, of real scores `s`: dividing the weighted sum by the sum of the weights is
    weighting by the quotients, and subtracting one real `M` from every score changes nothing. -/
theorem softmax_shift {n : ℕ} (hn : 0 < n) (s : Fin n → ℝ) (M : ℝ) (v : Fin n → EReal) :
    Ideal.div (∑ j, ((Real.exp (s j) : ℝ) : EReal) * v j) (∑ j, ((Real.exp (s j) : ℝ) : EReal))
    = ∑ j, Ideal.div (Ideal.exp ((s j : EReal) - (M : EReal))) (∑ k, Ideal.exp ((s k : EReal) - (M : EReal))) * v j := by
  haveI : Nonempty (Fin n) := ⟨⟨0, hn⟩⟩
  have hR : 0 < ∑ j, Real.exp (s j) := Finset.sum_pos (fun j _ => Real.exp_pos _) Finset.univ_nonempty
  have hS : 0 < ∑ j, Real.exp (s j - M) := Finset.sum_pos (fun j _ => Real.exp_pos _) Finset.univ_nonempty
  have hsum : ∑ j, Real.exp (s j - M) = (∑ j, Real.exp (s j)) * Real.exp (-M) := by
    rw [Finset.sum_mul]
    exact Finset.sum_congr rfl fun j _ => by rw [← Real.exp_add, sub_eq_add_neg]
  simp only [← EReal.coe_sub, Ideal.exp_coe, sum_coe, Ideal.div_coe hR.ne', Ideal.div_coe hS.ne']
  rw [sum_mul_coe _ _ (one_div_nonneg.mpr hR.le)]
  refine Finset.sum_congr rfl fun j _ => ?_
  rw [mul_right_comm, ← EReal.coe_mul, ← EReal.coe_mul, hsum, sub_eq_add_neg, Real.exp_add]
  congr 2
  have hM : Real.exp (-M) ≠ 0 := (Real.exp_pos _).ne'
  field_simp

/-- The named scale turns a power of two into the exponential of the score over the root of 32: for real queries and
    keys, `2 ^ (∑ q · scale · k)` is `exp ((∑ q · k) / √32)`. -/
theorem exp2_scaled {n : ℕ} (q k : Fin n → ℝ) :
    Ideal.exp2 (∑ d, (q d : EReal) * (((Real.log 2)⁻¹ * (Real.sqrt 32)⁻¹ : ℝ) : EReal) * (k d : EReal))
    = ((Real.exp ((∑ d, q d * k d) * (1 / Real.sqrt 32)) : ℝ) : EReal) := by
  simp only [← EReal.coe_mul, sum_coe, Ideal.exp2_coe]
  congr 1
  rw [Real.rpow_eq_pow, Real.rpow_def_of_pos (by norm_num : (0 : ℝ) < 2)]
  congr 1
  have h2 : Real.log 2 ≠ 0 := (Real.log_pos (by norm_num)).ne'
  rw [Finset.mul_sum, Finset.sum_mul]
  refine Finset.sum_congr rfl fun d _ => ?_
  field_simp

/-- The reference's score: the sum of products of reals over the root of 32 is a real. -/
theorem score_coe {n : ℕ} (q k : Fin n → ℝ) :
    Ideal.div (∑ d, (q d : EReal) * (k d : EReal)) (Ideal.sqrt ((32 : ℝ) : EReal))
    = (((∑ d, q d * k d) * (1 / Real.sqrt 32) : ℝ) : EReal) := by
  have h : Real.sqrt 32 ≠ 0 := (Real.sqrt_pos.mpr (by norm_num)).ne'
  simp only [Ideal.sqrt_coe, show ¬ (32 : ℝ) < 0 by norm_num, if_false, Ideal.div_coe h, ← EReal.coe_mul, sum_coe]

/-- Adding one vector `t` to every key adds the same real to each of a query's scores. -/
theorem score_add {n : ℕ} (q k t : Fin n → ℝ) (c : ℝ) :
    (∑ d, q d * (k d + t d)) * c = (∑ d, q d * k d) * c + (∑ d, q d * t d) * c := by
  simp only [mul_add, Finset.sum_add_distrib, add_mul]

/-- One head's attention at one query, for real queries and keys and any values: the kernel's quotient of the sums of
    powers of two is the reference's softmax, which adds a real bias `t` to every key and subtracts the running maximum
    of the scores. -/
theorem attend_eq {n : ℕ} {m : ℕ} (hm : 0 < m) (q : Fin n → ℝ) (k : Fin m → Fin n → ℝ) (t : Fin n → ℝ)
    (v : Fin m → EReal) :
    Ideal.div
      (∑ j, Ideal.exp2 (∑ d, (q d : EReal) * (((Real.log 2)⁻¹ * (Real.sqrt 32)⁻¹ : ℝ) : EReal) * (k j d : EReal)) * v j)
      (∑ j, Ideal.exp2 (∑ d, (q d : EReal) * (((Real.log 2)⁻¹ * (Real.sqrt 32)⁻¹ : ℝ) : EReal) * (k j d : EReal)))
    = ∑ j, Ideal.div
        (Ideal.exp (Ideal.div (∑ d, (q d : EReal) * ((k j d : EReal) + (t d : EReal))) (Ideal.sqrt ((32 : ℝ) : EReal))
          - Finset.univ.fold max (⊥ : EReal) fun l =>
              Ideal.div (∑ d, (q d : EReal) * ((k l d : EReal) + (t d : EReal))) (Ideal.sqrt ((32 : ℝ) : EReal))))
        (∑ p, Ideal.exp
          (Ideal.div (∑ d, (q d : EReal) * ((k p d : EReal) + (t d : EReal))) (Ideal.sqrt ((32 : ℝ) : EReal))
          - Finset.univ.fold max (⊥ : EReal) fun l =>
              Ideal.div (∑ d, (q d : EReal) * ((k l d : EReal) + (t d : EReal))) (Ideal.sqrt ((32 : ℝ) : EReal))))
        * v j := by
  haveI : Nonempty (Fin m) := ⟨⟨0, hm⟩⟩
  simp only [← EReal.coe_add, exp2_scaled, score_coe]
  obtain ⟨M, hM⟩ := exists_coe_fold_max Finset.univ Finset.univ_nonempty
    (fun l : Fin m => (∑ d, q d * (k l d + t d)) * (1 / Real.sqrt 32))
  have hshift : ∀ j, (((∑ d, q d * (k j d + t d)) * (1 / Real.sqrt 32) : ℝ) : EReal) - (M : EReal)
      = (((∑ d, q d * k j d) * (1 / Real.sqrt 32) : ℝ) : EReal)
        - ((M - (∑ d, q d * t d) * (1 / Real.sqrt 32) : ℝ) : EReal) := by
    intro j
    rw [← EReal.coe_sub, ← EReal.coe_sub, score_add]
    exact congrArg Real.toEReal (by ring)
  rw [hM]
  simp only [hshift]
  exact softmax_shift hm _ _ v

end Cert.Attention

end
-- ==== Proof.RefValue.lean ====
/- The reference's result as a function of its arguments, read at an index, and equal to the specification's. -/
module

public import proofs.«01_k».proof.Proof.Gen.ReferenceIdeal.Run
public import proofs.«01_k».proof.Proof.Softmax
public import proofs.«01_k».proof.Proof.Spec
public import Idealize.ShloMosaic.Lib.Pointwise

@[expose] public section

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem

variable {F : FTy → Type} [FloatOps F]

/-- The projection: the tokens against the transposed projection weights, plus the bias. -/
def qkv (x : FVec F S2x256x256 .f32) (w : FVec F S768x256 .f32) (b : FVec F S768 .f32) : FVec F S2x256x768 .f32 :=
  addf (Host.dotGeneral dot_S2x256x256_S256x768_S2x256x768_2_0_01_1_n_n none x
      (transpose S256x768 [1, 0] w transposes_S768x256_S256x768_1_0))
    (broadcastInDim S2x256x768 ![0, 1, 2] bcast_S1x1x768_S2x256x768_0_1_2
      (broadcastInDim S1x1x768 ![2] bcast_S768_S1x1x768_2 b))

/-- A third of the projection split into heads. -/
def heads (t : FVec F S2x256x256 .f32) : FVec F S2x8x256x32 .f32 :=
  transpose S2x8x256x32 [0, 2, 1, 3] (shapeCast S2x256x8x32 t shapeCasts_S2x256x256_S2x256x8x32)
    transposes_S2x256x8x32_S2x8x256x32_0_2_1_3

/-- The scores: query rows against key rows, over the root of 32. -/
def scores (q k : FVec F S2x8x256x32 .f32) : FVec F S2x8x256x256 .f32 :=
  Host.divf (Host.dotGeneral dot_S2x8x256x32_S2x8x32x256_S2x8x256x256_3_2_2_3_01_01 none q
      (transpose S2x8x32x256 [0, 1, 3, 2] k transposes_S2x8x256x32_S2x8x32x256_0_1_3_2))
    (broadcastInDim S2x8x256x256 ![] bcast_S_S2x8x256x256 (id (Host.sqrt (constant S_ .f32 0x42000000#32))))

/-- The exponentials of the scores, each row's largest score subtracted. -/
def weights (s : FVec F S2x8x256x256 .f32) : FVec F S2x8x256x256 .f32 :=
  Host.exp (subf s (broadcastInDim S2x8x256x256 ![0, 1, 2, 3] bcast_S2x8x256x1_S2x8x256x256_0_1_2_3
    (broadcastInDim S2x8x256x1 ![0, 1, 2] bcast_S2x8x256_S2x8x256x1_0_1_2
      (maximumf (broadcastInDim S2x8x256 ![] bcast_S_S2x8x256 (constant S_ .f32 0xFF800000#32))
        (Host.reduce FloatOps.maximumf s (constant S_ .f32 0xFF800000#32) reducesTo_S2x8x256x256_S2x8x256_d3 h_S_)))))

/-- The softmax: the exponentials over their sums along each row. -/
def softmax (p : FVec F S2x8x256x256 .f32) : FVec F S2x8x256x256 .f32 :=
  Host.divf p (broadcastInDim S2x8x256x256 ![0, 1, 2, 3] bcast_S2x8x256x1_S2x8x256x256_0_1_2_3
    (broadcastInDim S2x8x256x1 ![0, 1, 2] bcast_S2x8x256_S2x8x256x1_0_1_2
      (Host.reduceAdd p (constant S_ .f32 0x00000000#32) reducesTo_S2x8x256x256_S2x8x256_d3 h_S_)))

/-- The result from the softmax and the value heads: their product, the heads side by side again, through the output
    weights, plus the bias. -/
def project (a : FVec F S2x8x256x256 .f32) (v : FVec F S2x8x256x32 .f32) (w : FVec F S256x256 .f32)
    (b : FVec F S256 .f32) : FVec F S2x256x256 .f32 :=
  addf (Host.dotGeneral dot_S2x256x256_S256x256_S2x256x256_2_0_01_1_n_n none
      (shapeCast S2x256x256 (transpose S2x256x8x32 [0, 2, 1, 3]
        (Host.dotGeneral dot_S2x8x256x256_S2x8x256x32_S2x8x256x32_3_2_2_3_01_01 none a v)
        transposes_S2x8x256x32_S2x256x8x32_0_2_1_3) shapeCasts_S2x256x8x32_S2x256x256)
      (transpose S256x256 [1, 0] w transposes_S256x256_S256x256_1_0))
    (broadcastInDim S2x256x256 ![0, 1, 2] bcast_S1x1x256_S2x256x256_0_1_2
      (broadcastInDim S1x1x256 ![2] bcast_S256_S1x1x256_2 b))

/-- The whole reference as a function of the arguments it reads. -/
def attention (x : FVec F S2x256x256 .f32) (w : FVec F S768x256 .f32) (b : FVec F S768 .f32)
    (wo : FVec F S256x256 .f32) (bo : FVec F S256 .f32) : FVec F S2x256x256 .f32 :=
  project
    (softmax (weights (scores
      (heads (extractStridedSlice S2x256x256 ![0, 0, 0] (qkv x w b) slices_S2x256x768_S2x256x256_0_0_0))
      (heads (extractStridedSlice S2x256x256 ![0, 0, 256] (qkv x w b) slices_S2x256x768_S2x256x256_0_0_256)))))
    (heads (extractStridedSlice S2x256x256 ![0, 0, 512] (qkv x w b) slices_S2x256x768_S2x256x256_0_0_512))
    wo bo

/-- The reference's result is that function of the arguments. -/
theorem res_eq (m : (ℓ : Loc nD τ sig) → Buf (Elt F) ℓ) (c : Dev nD) :
    res_out0 m c = attention (m ((c.tc : Thread nD τ).loc main_arg0)) (m ((c.tc : Thread nD τ).loc main_arg6))
      (m ((c.tc : Thread nD τ).loc main_arg7)) (m ((c.tc : Thread nD τ).loc main_arg8))
      (m ((c.tc : Thread nD τ).loc main_arg9)) := rfl

/-! ## The pieces at an index -/

/-- The pattern the scores are divided by the root of denotes 32. -/
theorem ofBits_32 : Ideal.ofBits .f32 0x42000000#32 = ((32 : ℝ) : EReal) := by
  simp [Ideal.ofBits, Ideal.ieee, -EReal.coe_mul]
  norm_num

/-- The pattern the row maximum starts from denotes minus infinity. -/
theorem ofBits_bot : Ideal.ofBits .f32 0xFF800000#32 = ⊥ := by
  simp [Ideal.ofBits, Ideal.ieee]

/-- The projection: the token against the row of the weights, plus the row's bias. -/
theorem qkv_apply (x : FVec Ideal S2x256x256 .f32) (w : FVec Ideal S768x256 .f32) (b : FVec Ideal S768 .f32)
    (n : Fin 2) (i : Fin 256) (r : Fin 768) :
    qkv x w b (ix3 n i r) = Cert.Attention.proj x w n i r + b (ix1 r) := by
  have h : qkv x w b (ix3 n i r) = ∑ k : Fin 256, x (ix3 n i k) * w (ix2 r k) + b (ix1 r) := by
    pointwise [qkv]
  rw [h]
  exact congrArg (· + _) (Finset.sum_congr rfl fun k _ => mul_comm _ _)

/-- The queries' heads: the first third of the projection. -/
theorem heads_q (t : FVec Ideal S2x256x768 .f32) (n : Fin 2) (h : Fin 8) (i : Fin 256) (d : Fin 32) :
    heads (extractStridedSlice S2x256x256 ![0, 0, 0] t slices_S2x256x768_S2x256x256_0_0_0) (ix4 n h i d)
    = t (ix3 n i (Cert.Attention.row 0 h d)) := by
  pointwise [heads]
  exact congrArg (fun r => t (ix3 n i r)) (Fin.ext (by simp [Cert.Attention.row]; omega))

/-- The keys' heads: the second third. -/
theorem heads_k (t : FVec Ideal S2x256x768 .f32) (n : Fin 2) (h : Fin 8) (i : Fin 256) (d : Fin 32) :
    heads (extractStridedSlice S2x256x256 ![0, 0, 256] t slices_S2x256x768_S2x256x256_0_0_256) (ix4 n h i d)
    = t (ix3 n i (Cert.Attention.row 1 h d)) := by
  pointwise [heads]
  exact congrArg (fun r => t (ix3 n i r)) (Fin.ext (by simp [Cert.Attention.row]; omega))

/-- The values' heads: the last third. -/
theorem heads_v (t : FVec Ideal S2x256x768 .f32) (n : Fin 2) (h : Fin 8) (i : Fin 256) (d : Fin 32) :
    heads (extractStridedSlice S2x256x256 ![0, 0, 512] t slices_S2x256x768_S2x256x256_0_0_512) (ix4 n h i d)
    = t (ix3 n i (Cert.Attention.row 2 h d)) := by
  pointwise [heads]
  exact congrArg (fun r => t (ix3 n i r)) (Fin.ext (by simp [Cert.Attention.row]; omega))

/-- A score: the query against the key, over the root of 32. -/
theorem scores_apply (q k : FVec Ideal S2x8x256x32 .f32) (n : Fin 2) (h : Fin 8) (i j : Fin 256) :
    scores q k (ix4 n h i j)
    = Ideal.div (∑ d : Fin 32, q (ix4 n h i d) * k (ix4 n h j d)) (Ideal.sqrt ((32 : ℝ) : EReal)) := by
  rw [← ofBits_32]
  pointwise [scores]
  rfl

/-- A weight: the exponential of the score less the row's largest. -/
theorem weights_apply (s : FVec Ideal S2x8x256x256 .f32) (n : Fin 2) (h : Fin 8) (i j : Fin 256) :
    weights s (ix4 n h i j)
    = Ideal.exp (s (ix4 n h i j) - Finset.univ.fold max (⊥ : EReal) fun l : Fin 256 => s (ix4 n h i l)) := by
  have hw : weights s (ix4 n h i j)
      = Ideal.exp (s (ix4 n h i j) - max (Ideal.ofBits .f32 0xFF800000#32)
          (Finset.univ.fold max (Ideal.ofBits .f32 0xFF800000#32) fun l : Fin 256 => s (ix4 n h i l))) := by
    pointwise [weights]
  rw [hw, ofBits_bot, max_eq_right bot_le]

/-- A softmax entry: the weight over the row's sum. -/
theorem softmax_apply (p : FVec Ideal S2x8x256x256 .f32) (n : Fin 2) (h : Fin 8) (i j : Fin 256) :
    softmax p (ix4 n h i j) = Ideal.div (p (ix4 n h i j)) (∑ l : Fin 256, p (ix4 n h i l)) := by
  pointwise [softmax]

/-- The result at an index, where the output bias is zero: every head's weighted values through its columns of the
    output weights. -/
theorem project_apply (a : FVec Ideal S2x8x256x256 .f32) (v : FVec Ideal S2x8x256x32 .f32)
    (wo : FVec Ideal S256x256 .f32) (bo : FVec Ideal S256 .f32) (hbo : ∀ e : Fin 256, bo (ix1 e) = 0)
    (n : Fin 2) (i e : Fin 256) :
    project a v wo bo (ix3 n i e)
    = ∑ h : Fin 8, ∑ d : Fin 32,
        (∑ j : Fin 256, a (ix4 n h i j) * v (ix4 n h j d)) * wo (ix2 e (Cert.Attention.col h d)) := by
  have hp : project a v wo bo (ix3 n i e)
      = ∑ y : Fin 256, (∑ j : Fin 256, a (ix4 n (⟨y.val / 32, by omega⟩ : Fin 8) i j)
          * v (ix4 n (⟨y.val / 32, by omega⟩ : Fin 8) j (⟨y.val % 32, by omega⟩ : Fin 32))) * wo (ix2 e y)
        + bo (ix1 e) := by
    pointwise [project]
  rw [hp, hbo, add_zero, Cert.Attention.sum_col]
  refine Finset.sum_congr rfl fun h _ => Finset.sum_congr rfl fun d _ => ?_
  have hh : (⟨(Cert.Attention.col h d).val / 32, by omega⟩ : Fin 8) = h :=
    Fin.ext (by simp only [Cert.Attention.col]; omega)
  have hd : (⟨(Cert.Attention.col h d).val % 32, by omega⟩ : Fin 32) = d :=
    Fin.ext (by simp only [Cert.Attention.col]; omega)
  rw [hh, hd]

/-! ## The whole -/

/-- A projected token is a real on every row of real weights. -/
theorem proj_real (x : FVec Ideal S2x256x256 .f32) (w : FVec Ideal S768x256 .f32)
    (hx : ∀ y, ∃ q : ℝ, x y = (q : EReal)) (n : Fin 2) (i : Fin 256) (r : Fin 768)
    (hw : ∀ k : Fin 256, ∃ q : ℝ, w (ix2 r k) = (q : EReal)) :
    ∃ q : ℝ, Cert.Attention.proj x w n i r = (q : EReal) := by
  choose X hX using hx
  choose W hW using hw
  refine ⟨∑ k, W k * X (ix3 n i k), ?_⟩
  rw [← Cert.Attention.sum_coe]
  exact Finset.sum_congr rfl fun k _ => by rw [hW, hX, EReal.coe_mul]

/-- A head's output in the reference's order of operations, for projected tokens `P` whose query and key rows are
    reals, with a real bias `t` on the keys. -/
theorem attend_eq (P : Fin 256 → Fin 768 → EReal) (h : Fin 8)
    (hP : ∀ (i : Fin 256) (d : Fin 32), (∃ q : ℝ, P i (Cert.Attention.row 0 h d) = (q : EReal))
      ∧ ∃ q : ℝ, P i (Cert.Attention.row 1 h d) = (q : EReal))
    (t : Fin 32 → EReal) (ht : ∀ d, ∃ q : ℝ, t d = (q : EReal)) (s : Fin 256 → EReal) (i : Fin 256)
    (hs : ∀ j, s j = Ideal.div
      (∑ d : Fin 32, P i (Cert.Attention.row 0 h d) * (P j (Cert.Attention.row 1 h d) + t d))
      (Ideal.sqrt ((32 : ℝ) : EReal))) (d : Fin 32) :
    ∑ j, Ideal.div (Ideal.exp (s j - Finset.univ.fold max (⊥ : EReal) fun l => s l))
      (∑ p, Ideal.exp (s p - Finset.univ.fold max (⊥ : EReal) fun l => s l)) * P j (Cert.Attention.row 2 h d)
    = Cert.Attention.attend P h i d := by
  choose q hq using fun i d => (hP i d).1
  choose k hk using fun i d => (hP i d).2
  choose u hu using ht
  obtain rfl : s = _ := funext hs
  simp only [Cert.Attention.attend, Cert.Attention.weight, Cert.Attention.scale, hq, hk, hu]
  exact (Cert.Attention.attend_eq (by decide) (q i) k u fun j => P j (Cert.Attention.row 2 h d)).symm

/-- The reference computes the specification's result, where the tokens, the query and key rows of the projection
    weights and the key bias are reals, and the query, value and output biases are zero. -/
theorem attention_eq (x : FVec Ideal S2x256x256 .f32) (w : FVec Ideal S768x256 .f32) (b : FVec Ideal S768 .f32)
    (wo : FVec Ideal S256x256 .f32) (bo : FVec Ideal S256 .f32)
    (hx : ∀ y, ∃ q : ℝ, x y = (q : EReal))
    (hw : ∀ (r : Fin 768), r.val < 512 → ∀ k : Fin 256, ∃ q : ℝ, w (ix2 r k) = (q : EReal))
    (hq : ∀ (h : Fin 8) (d : Fin 32), b (ix1 (Cert.Attention.row 0 h d)) = 0)
    (hk : ∀ (h : Fin 8) (d : Fin 32), ∃ q : ℝ, b (ix1 (Cert.Attention.row 1 h d)) = (q : EReal))
    (hv : ∀ (h : Fin 8) (d : Fin 32), b (ix1 (Cert.Attention.row 2 h d)) = 0)
    (hbo : ∀ e : Fin 256, bo (ix1 e) = 0) :
    attention x w b wo bo = Cert.Attention.result x w wo := by
  funext y
  obtain ⟨n, i, e, rfl⟩ : ∃ (n : Fin 2) (i e : Fin 256), y = ix3 n i e := ⟨y 0, y 1, y 2, eq_ix3 y⟩
  unfold attention Cert.Attention.result
  rw [project_apply _ _ _ _ hbo]
  refine Finset.sum_congr rfl fun h _ => Finset.sum_congr rfl fun d _ => congrArg (· * _) ?_
  simp only [softmax_apply, weights_apply, heads_v, qkv_apply, hv, add_zero]
  refine attend_eq (Cert.Attention.proj x w n) h (fun j d => ⟨?_, ?_⟩) _ (hk h) _ i (fun j => ?_) d
  · exact proj_real x w hx n j _ (hw _ (by simp [Cert.Attention.row]; omega))
  · exact proj_real x w hx n j _ (hw _ (by simp [Cert.Attention.row]; omega))
  · rw [scores_apply]
    simp only [heads_q, heads_k, qkv_apply, hq, add_zero]

end Cert.ReferenceIdeal.RefValue

end
-- ==== Proof.Precondition.lean ====
/- What the precondition says of the arguments over the extended reals: every token and every query and key row of the
   projection weights is a real, so is every entry of the key bias, and the query, value and output biases are zero. -/
module

public import proofs.«01_k».proof.Pre_finite_queries_and_keys
public import proofs.«01_k».proof.Proof.Softmax
public import proofs.«01_k».proof.Proof.Spec
public import Idealize.ShloMosaic.Lib.Pointwise

@[expose] public section

set_option maxRecDepth 16384

noncomputable section

namespace Cert.Pre_finite_queries_and_keys

open Idealize.ShloMosaic

/-- The predicate's shape conditions hold. -/
theorem facts : Facts where
  bcast_S_S2x256x256 := by decide
  slices_S768x256_S512x256_0_0 := by decide
  bcast_S_S512x256 := by decide
  slices_S768_S256_0 := by decide
  bcast_S_S256 := by decide
  slices_S768_S256_256 := by decide
  slices_S768_S256_512 := by decide

/-- The pattern compared with denotes infinity. -/
theorem ofBits_inf : Ideal.ofBits .f32 0x7F800000#32 = ⊤ := by
  simp [Ideal.ofBits, Ideal.ieee]

/-- A word made of a truth value is one exactly when it is true. -/
theorem ofBool_eq_one {b : Bool} (h : BitVec.ofBool b = 1#1) : b = true := by
  cases b
  · exact absurd h (by decide)
  · rfl

variable (x : FVec Ideal S2x256x256 .f32) (a : FVec Ideal S2x256x256 .f32) (w1 : FVec Ideal S256x512 .f32)
  (b1 : FVec Ideal S256 .f32) (w2 : FVec Ideal S1x256 .f32) (b2 : FVec Ideal S1 .f32) (w : FVec Ideal S768x256 .f32)
  (b : FVec Ideal S768 .f32) (wo : FVec Ideal S256x256 .f32) (bo : FVec Ideal S256 .f32)

/-- Every token entry is a real. -/
theorem x_real [Facts] (h : (fn (F := Ideal) x a w1 b1 w2 b2 w b wo bo).1 = fun _ => 1#1) (y : S2x256x256.Idx) :
    ∃ r : ℝ, x y = (r : EReal) := by
  have h' := congrFun h y
  pointwise [fn, fn_part1] at h'
  have hlt := of_decide_eq_true (ofBool_eq_one h')
  rw [ofBits_inf] at hlt
  exact Cert.Attention.exists_coe_of_abs_lt_top hlt

/-- Every entry of the query and key rows of the projection weights is a real. -/
theorem w_real [Facts] (h : (fn (F := Ideal) x a w1 b1 w2 b2 w b wo bo).2.1 = fun _ => 1#1) (r : Fin 768)
    (hr : r.val < 512) (k : Fin 256) : ∃ q : ℝ, w (ix2 r k) = (q : EReal) := by
  have h' := congrFun h (ix2 (⟨r.val, hr⟩ : Fin 512) k)
  pointwise [fn, fn_part1] at h'
  have hlt := of_decide_eq_true (ofBool_eq_one h')
  rw [ofBits_inf] at hlt
  exact Cert.Attention.exists_coe_of_abs_lt_top hlt

/-- The query bias is zero. -/
theorem bq_zero [Facts] (hf : (fn (F := Ideal) x a w1 b1 w2 b2 w b wo bo).2.2.1 = fun _ => 1#1) (h : Fin 8)
    (d : Fin 32) : b (ix1 (Cert.Attention.row 0 h d)) = 0 := by
  have h' := congrFun hf (ix1 (Cert.Attention.col h d))
  pointwise [fn, fn_part1] at h'
  refine Eq.trans (congrArg (fun r => b (ix1 r)) (Fin.ext ?_)) (of_decide_eq_true (ofBool_eq_one h'))
  simp [Cert.Attention.row, Cert.Attention.col]

/-- Every entry of the key bias is a real. -/
theorem bk_real [Facts] (hf : (fn (F := Ideal) x a w1 b1 w2 b2 w b wo bo).2.2.2.1 = fun _ => 1#1) (h : Fin 8)
    (d : Fin 32) : ∃ q : ℝ, b (ix1 (Cert.Attention.row 1 h d)) = (q : EReal) := by
  have h' := congrFun hf (ix1 (Cert.Attention.col h d))
  pointwise [fn, fn_part1] at h'
  have hlt := of_decide_eq_true (ofBool_eq_one h')
  rw [ofBits_inf] at hlt
  obtain ⟨q, hq⟩ := Cert.Attention.exists_coe_of_abs_lt_top hlt
  exact ⟨q, Eq.trans (congrArg (fun r => b (ix1 r)) (Fin.ext (by simp [Cert.Attention.row, Cert.Attention.col]))) hq⟩

/-- The value bias is zero. -/
theorem bv_zero [Facts] (hf : (fn (F := Ideal) x a w1 b1 w2 b2 w b wo bo).2.2.2.2.1 = fun _ => 1#1) (h : Fin 8)
    (d : Fin 32) : b (ix1 (Cert.Attention.row 2 h d)) = 0 := by
  have h' := congrFun hf (ix1 (Cert.Attention.col h d))
  pointwise [fn, fn_part1] at h'
  refine Eq.trans (congrArg (fun r => b (ix1 r)) (Fin.ext ?_)) (of_decide_eq_true (ofBool_eq_one h'))
  simp [Cert.Attention.row, Cert.Attention.col]

/-- The output's bias is zero. -/
theorem bo_zero [Facts] (hf : (fn (F := Ideal) x a w1 b1 w2 b2 w b wo bo).2.2.2.2.2 = fun _ => 1#1) (e : Fin 256) :
    bo (ix1 e) = 0 := by
  have h' := congrFun hf (ix1 e)
  pointwise [fn, fn_part1] at h'
  exact of_decide_eq_true (ofBool_eq_one h')

end Cert.Pre_finite_queries_and_keys

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelArray
public import proofs.«01_k».proof.Proof.RefValue
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.SL.Sem

/-- The kernel's shape conditions. -/
local instance kernelFacts : Cert.Kernel.Facts := Cert.Kernel.Gen.facts
/-- The same after idealization. -/
local instance kernelIdealFacts : Cert.KernelIdeal.Facts := Cert.KernelIdeal.Gen.facts
/-- The reference's shape conditions. -/
local instance referenceIdealFacts : Cert.ReferenceIdeal.Facts := Cert.ReferenceIdeal.Gen.facts
/-- The precondition's shape conditions. -/
local instance preconditionFacts : Cert.Pre_finite_queries_and_keys.Facts := Cert.Pre_finite_queries_and_keys.facts

/-- The kernel on bits runs to the end and changes no argument. -/
theorem frame_kernel : Cert.quiescent_Kernel := fun m g _ => Cert.Kernel.Gen.frame m g

/-- So does the idealized kernel. -/
theorem frame_kernelIdeal : Cert.quiescent_KernelIdeal := fun m g _ => Cert.KernelIdeal.Gen.frame m g

/-- Likewise under the precondition. -/
theorem frame_kernelIdeal_pre : Cert.quiescent_KernelIdeal_pre_finite_queries_and_keys :=
  fun m g _ => Cert.KernelIdeal.Gen.frame m g

/-- The reference runs to the end and changes no argument. -/
theorem frame_referenceIdeal : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- Likewise under the precondition. -/
theorem frame_referenceIdeal_pre : Cert.quiescent_ReferenceIdeal_pre_finite_queries_and_keys := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The one rewrite between the kernel and its idealization: the named constant. -/
theorem preserves : Cert.preserves_Kernel_KernelIdeal :=
  IdealRules.named_const.statement Cert.KernelIdeal.κ "scale" .f32 0x3E8293EE#32
    (((Real.log 2)⁻¹ * (Real.sqrt 32)⁻¹ : ℝ) : EReal) rfl

/-- The kernel and the reference end with the same result, the specification's. -/
theorem algebraic : Cert.algebraic_KernelIdeal_ReferenceIdeal_pre_finite_queries_and_keys := by
  intro m g m' g' hpre hagree
  refine ⟨_, Cert.KernelIdeal.ArrayValue.run m g, ?_⟩
  refine (θ_run Cert.ReferenceIdeal.defs _ _).mono (fun _ h c => ⟨(h c).1.trans ?_, (h c).2⟩)
    (Cert.ReferenceIdeal.Value.run (F := Ideal) m' g')
  refine (Cert.ReferenceIdeal.RefValue.res_eq m' c).trans ?_
  obtain ⟨h0, _, _, _, _, _, h6, h7, h8, h9⟩ := hagree c
  obtain ⟨px, pw, pq, pk, pv, pbo⟩ := hpre c
  rw [h0, h6, h7, h8, h9]
  exact Cert.ReferenceIdeal.RefValue.attention_eq _ _ _ _ _
    (Cert.Pre_finite_queries_and_keys.x_real _ _ _ _ _ _ _ _ _ _ px)
    (Cert.Pre_finite_queries_and_keys.w_real _ _ _ _ _ _ _ _ _ _ pw)
    (Cert.Pre_finite_queries_and_keys.bq_zero _ _ _ _ _ _ _ _ _ _ pq)
    (Cert.Pre_finite_queries_and_keys.bk_real _ _ _ _ _ _ _ _ _ _ pk)
    (Cert.Pre_finite_queries_and_keys.bv_zero _ _ _ _ _ _ _ _ _ _ pv)
    (Cert.Pre_finite_queries_and_keys.bo_zero _ _ _ _ _ _ _ _ _ _ pbo)

/-- Every claim of the certificate. -/
theorem claim : Cert.Claim :=
  ⟨kernelFacts, kernelIdealFacts, referenceIdealFacts, preconditionFacts, frame_kernel, frame_kernelIdeal,
    frame_kernelIdeal_pre, frame_referenceIdeal, frame_referenceIdeal_pre, preserves, algebraic⟩

end Cert.Proof

end
